-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_8 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32_8 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v14 : BitVec 32 := Scalar.muli v5 c1_i32_9
  let v15 : BitVec 32 := Scalar.addi v13 v14
  v15.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Exchange.lean ====
/-
# The exchange between a device and its neighbour along `x`

The kernel runs on the four devices of a 2 × 2 mesh, device `c = 2·x + y`. Device `c` works with one other device
only, the one at `(1 - x, y)`: here `peer c`. Three semaphore cells of each device take part, and each is raised and
waited on exactly once:

* its barrier cell is raised by one unit by its peer, when the peer has started. The signal stands for the leave to
  write into the peer's landing buffer, so it hands that buffer over;
* its receive cell is raised by the bytes of the peer's copy. It hands over the landing buffer with the peer's block;
* its send cell is raised by the bytes of its own copy. It hands back the buffer the copy read.

This module fixes the names, and states that protocol as a schedule of rounds: round 0 with one duty per cell, and
nothing after it.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Who talks to whom -/

/-- The neighbour along `x`: device `(x, y)`, numbered `2·x + y`, exchanges with `(1 - x, y)`. -/
def peer : Dev nD → Dev nD := ![2, 3, 0, 1]

/-- The neighbour of the neighbour is the device itself. -/
theorem peer_peer : ∀ c : Dev nD, peer (peer c) = c := by decide

/-- As a permutation of the devices. -/
def across : Dev nD ≃ Dev nD := ⟨peer, peer, peer_peer, peer_peer⟩

/-- The device the kernel signals is the neighbour. -/
theorem signalled_eq (c : Dev nD) : (⟨k0_dev1 c, k0_dev1_lt c⟩ : Dev nD) = peer c :=
  Fin.ext ((k0_dev1_eq c).trans (by revert c; decide))

/-- The device the kernel copies to is the neighbour. -/
theorem copied_eq (c : Dev nD) : (⟨k0_dev2 c, k0_dev2_lt c⟩ : Dev nD) = peer c :=
  Fin.ext ((k0_dev2_eq c).trans (by revert c; decide))

/-! ## The cells -/

/-- The barrier semaphore of the kernel's collective id. -/
abbrev gate : Sem sig := (SemArray.scalar (sig.barrier 0 rfl) : Sems sig S_).sem

/-- The three semaphores of the exchange: barrier, send, receive. -/
abbrev role : Fin 3 → SemLoc sig := ![.reg gate, .dma cc0_scratch1.sem, .dma cc0_scratch2.sem]

/-- The cells of device `c`. -/
abbrev gateCell (c : Dev nD) : GSem nD τ sig := ((c : Thread nD τ), .reg gate)
abbrev sentCell (c : Dev nD) : GSem nD τ sig := ((c : Thread nD τ), .dma cc0_scratch1.sem)
abbrev gotCell (c : Dev nD) : GSem nD τ sig := ((c : Thread nD τ), .dma cc0_scratch2.sem)

theorem role_inj : Function.Injective role := by decide

/-- A device and a role name one cell. -/
def cellAt : Dev nD × Fin 3 ↪ GSem nD τ sig where
  toFun p := ((p.1 : Thread nD τ), role p.2)
  inj' p q h := Prod.ext (congrArg (fun g : GSem nD τ sig => g.1.1) h) (role_inj (congrArg Prod.snd h))

/-! ## The resources -/

/-- Ghost state: one copy of the rounds for the staging pipeline, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The contents of the buffers the body works on: a block of 256 rows. -/
abbrev Block (F : FTy → Type) : Type := Vec F S256x256 .f32

/-- The operand's staging buffer, the result's, and the landing buffer, as the kernel addresses them. -/
abbrev xRef : Memref sig .tc .vmem S256x256 .f32 := Memref.whole cc0_stg0_0
abbrev oRef : Memref sig .tc .vmem S256x256 .f32 := Memref.whole cc0_stg1_0
abbrev lRef : Memref sig .tc .vmem S256x256 .f32 := Memref.whole cc0_scratch0

/-- Device `c`'s landing buffer, holding `v`. -/
abbrev landing (c : Dev nD) (v : Block F) : sProp 𝕄 :=
  lRef.view.loc (c : Thread nD τ) ↦[lRef.view.set]{fullShare} v
/-- Device `c`'s staging buffer of the operand, holding `v`. -/
abbrev operand (c : Dev nD) (v : Block F) : sProp 𝕄 :=
  xRef.view.loc (c : Thread nD τ) ↦[xRef.view.set]{fullShare} v
/-- Device `c`'s staging buffer of the result, holding `v`. -/
abbrev result (c : Dev nD) (v : Block F) : sProp 𝕄 :=
  oRef.view.loc (c : Thread nD τ) ↦[oRef.view.set]{fullShare} v

/-- The units a whole block's copy raises a cell by. -/
abbrev units : ℕ := lRef.view.dmaCredit

theorem units_pos : 0 < units := View.dmaCredit_pos _ (by decide)

/-! ## The schedule -/

variable (x : Dev nD → Block F)

/-- What raising cell `g` hands to the device that waits on it, `x d` being device `d`'s block. -/
def handed (g : GSem nD τ sig) : sProp 𝕄 :=
  if g.2 = .reg gate then iprop((∃ v, landing (peer g.1.1) v) ∗ reached ER (gotCell (peer g.1.1)) 0)
  else if g.2 = .dma cc0_scratch2.sem then landing g.1.1 (x (peer g.1.1))
  else operand g.1.1 (x g.1.1)

instance handed_storable (g : GSem nD τ sig) : BI.Storable (upEmb : UEmb _ 𝕄) (handed x g) := by
  unfold handed
  (repeat' split) <;> infer_instance

/-- Round 0 of every cell has one duty: one unit at a barrier cell, a block's copy elsewhere. -/
def plan : Rounds.Schedule (GSem nD τ sig) Unit 𝕄 where
  duties _ r := if r = 0 then {()} else ∅
  amount g _ _ := if g.2 = .reg gate then 1 else units
  payload g _ _ := handed x g
  amount_pos g _ _ _ := by
    split
    · exact Nat.one_pos
    · exact units_pos

instance plan_storable (g : GSem nD τ sig) (r : ℕ) (d : Unit) :
    BI.Storable (upEmb : UEmb _ 𝕄) ((plan x).payload g r d) := handed_storable x g

theorem plan_duties (g : GSem nD τ sig) : (plan x).duties g 0 = {()} := rfl

/-- After round 0 nobody owes a cell anything. -/
theorem plan_done (g : GSem nD τ sig) (r : ℕ) (h : 1 ≤ r) : (plan x).duties g r = ∅ :=
  if_neg (Nat.ne_of_gt h)

theorem sent_ne_gate : (SemLoc.dma cc0_scratch1.sem : SemLoc sig) ≠ .reg gate := fun h => by cases h
theorem got_ne_gate : (SemLoc.dma cc0_scratch2.sem : SemLoc sig) ≠ .reg gate := fun h => by cases h
theorem sent_ne_got : (SemLoc.dma cc0_scratch1.sem : SemLoc sig) ≠ .dma cc0_scratch2.sem := by decide

section Tables

variable (c : Dev nD)

theorem amount_gate : (plan x).amount (gateCell c) 0 () = 1 := by dsimp only [plan]; rw [if_pos rfl]
theorem amount_sent : (plan x).amount (sentCell c) 0 () = units := by dsimp only [plan]; rw [if_neg sent_ne_gate]
theorem amount_got : (plan x).amount (gotCell c) 0 () = units := by dsimp only [plan]; rw [if_neg got_ne_gate]

/-- A round with one duty expects that duty's units. -/
theorem expect_eq (g : GSem nD τ sig) : (plan x).expect g 0 = (plan x).amount g 0 () :=
  Finset.sum_singleton _ _

theorem expect_gate : (plan x).expect (gateCell c) 0 = 1 := (expect_eq x _).trans (amount_gate x c)
theorem expect_sent : (plan x).expect (sentCell c) 0 = units := (expect_eq x _).trans (amount_sent x c)
theorem expect_got : (plan x).expect (gotCell c) 0 = units := (expect_eq x _).trans (amount_got x c)

theorem payload_gate : (plan x).payload (gateCell c) 0 ()
    = iprop((∃ v, landing (peer c) v) ∗ reached ER (gotCell (peer c)) 0) := by
  dsimp only [plan, handed]; rw [if_pos rfl]
theorem payload_sent : (plan x).payload (sentCell c) 0 () = operand c (x c) := by
  dsimp only [plan, handed]; rw [if_neg sent_ne_gate, if_neg sent_ne_got]
theorem payload_got : (plan x).payload (gotCell c) 0 () = landing c (x (peer c)) := by
  dsimp only [plan, handed]; rw [if_neg got_ne_gate, if_pos rfl]

/-- What a device hands over by opening its peer's barrier: its own landing buffer. -/
theorem payload_open : (plan x).payload (gateCell (peer c)) 0 ()
    = iprop((∃ v, landing c v) ∗ reached ER (gotCell c) 0) := by rw [payload_gate, peer_peer]
/-- What a device's copy hands over to its peer: the peer's landing buffer with the device's block. -/
theorem payload_copy : (plan x).payload (gotCell (peer c)) 0 () = landing (peer c) (x c) := by
  rw [payload_got, peer_peer]

end Tables

/-! ## What is owed, and in which order the cells may be waited on -/

/-- Device `c` owes its peer the copy, and the signal before it. -/
def debt (c : Dev nD) : CellTallies nD τ sig Unit :=
  tallyAt (gotCell (peer c)) () units + tallyAt (gateCell (peer c)) () 1

/-- The index set of the levels: one pair per cell of a TensorCore. -/
def pairs (g : GSem nD τ sig) : Finset Unit := if g.1.2 = .tc then {()} else ∅

/-- A barrier cell comes before a receive cell; whatever else is waited on comes before both. -/
def rank (g : GSem nD τ sig) (_ : Unit) : ℕ :=
  if g.2 = .reg gate then 1 else if g.2 = .dma cc0_scratch2.sem then 2 else 0

/-- Device `c` may wait on a cell of its own while all that it owes ranks above that cell. -/
theorem may_wait {c : Dev nD} {s : SemLoc sig} {O : CellTallies nD τ sig Unit}
    (h : ∀ g u, 0 < O g u → g.1.2 = .tc ∧ rank (c, s) () < rank g u) :
    (levAts pairs rank : sProp 𝕄) ⊢ MayWait (c : Thread nD τ) s () O :=
  Pipeline.mayWait_of_levAts (Finset.mem_singleton_self _) fun g u hg =>
    ⟨by unfold pairs; rw [if_pos (h g u hg).1]; exact Finset.mem_singleton_self _, (h g u hg).2⟩

theorem rank_got (c : Dev nD) : rank (gotCell c) () = 2 := (if_neg got_ne_gate).trans (if_pos rfl)
theorem rank_gate (c : Dev nD) : rank (gateCell c) () = 1 := if_pos rfl

/-- At its barrier a device owes only the copy, which ranks above. -/
theorem may_wait_gate (c : Dev nD) :
    (levAts pairs rank : sProp 𝕄) ⊢ MayWait (c : Thread nD τ) (.reg gate) () (tallyAt (gotCell (peer c)) () units) :=
  may_wait fun g u hg => by
    obtain ⟨rfl, rfl⟩ := Pipeline.tallyAt_pos hg
    exact ⟨rfl, by rw [rank_got, rank_gate]; exact Nat.one_lt_two⟩

/-- While it owes both, a device may wait on any cell of rank zero. -/
theorem may_wait_low (c : Dev nD) (s : SemLoc sig) (hs : rank (c, s) () = 0) :
    (levAts pairs rank : sProp 𝕄) ⊢ MayWait (c : Thread nD τ) s () (debt c) :=
  may_wait fun g u hg => by
    rw [hs]
    rcases Pipeline.add_pos_cases hg with h | h <;> obtain ⟨rfl, rfl⟩ := Pipeline.tallyAt_pos h
    · exact ⟨rfl, by rw [rank_got]; exact Nat.two_pos⟩
    · exact ⟨rfl, by rw [rank_gate]; exact Nat.one_pos⟩

end Cert.Exchange

end
-- ==== Proof.Body.lean ====
/-
# What one device's kernel does

The body of the kernel on device `c`, run from its share of the exchange: it opens its peer's barrier, passes its own,
sends its block, waits for the copy to have left and for the peer's to have arrived, and adds the two blocks.
-/
module

public import proofs.«01_k».proof.Proof.Exchange

@[expose] public section

noncomputable section

namespace Cert.Exchange

open Cert.KernelIdeal Cert.KernelIdeal.Gen
open Idealize.ShloMosaic Idealize.ShloMosaic.TcCoe Idealize.ShloMosaic.Rounds Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (x : Dev nD → Block F) (κ : GSem nD τ sig → ℕ)

/-- The records device `c` works under: the invariants of its three cells and of the two cells of its peer that it
    raises, and that round 0 of the cells it raises is reached. -/
def records (c : Dev nD) : sProp 𝕄 :=
  iprop((cellInv ER (plan x) (κ (gateCell c)) (gateCell c)
      ∗ cellInv ER (plan x) (κ (sentCell c)) (sentCell c)
      ∗ cellInv ER (plan x) (κ (gotCell c)) (gotCell c)
      ∗ cellInv ER (plan x) (κ (gateCell (peer c))) (gateCell (peer c))
      ∗ cellInv ER (plan x) (κ (gotCell (peer c))) (gotCell (peer c)))
    ∗ reached ER (gateCell (peer c)) 0 ∗ reached ER (gotCell (peer c)) 0
    ∗ reached ER (sentCell c) 0 ∗ reached ER (gotCell c) 0)

instance records_persistent (c : Dev nD) : BI.Persistent (records x κ c) := by unfold records; infer_instance

/-- What device `c` may use up: its place at round 0 of its three cells, and the tokens of the three raises it makes. -/
def stake (c : Dev nD) : sProp 𝕄 :=
  iprop((atPos ER (gateCell c) 0 ∅ 0 ∗ atPos ER (sentCell c) 0 ∅ 0 ∗ atPos ER (gotCell c) 0 ∅ 0)
    ∗ dutyTok ER (gateCell (peer c)) 0 () ∗ dutyTok ER (sentCell c) 0 () ∗ dutyTok ER (gotCell (peer c)) 0 ())

/-- The credit device `c` is given at launch: its peer's signal and its peer's copy. -/
def credit (c : Dev nD) : sProp 𝕄 :=
  iprop(cred (tallyAt (gateCell c) () 1) ∗ cred (tallyAt (gotCell c) () units))

/-- The cells of device `c`, all at zero. -/
def atRest (c : Dev nD) : sProp 𝕄 :=
  iprop(semVal (gateCell c) 0 ∗ semVal (sentCell c) 0 ∗ semVal (gotCell c) 0)

/-- What the kernel stores on device `c`. -/
def summed (c : Dev nD) : Block F := k0_pay1 (x c) (x (peer c))

attribute [local sl_rounds] plan_duties amount_gate amount_sent amount_got expect_gate expect_sent expect_got
  payload_gate payload_sent payload_got landing operand result
attribute [local sl_rounds high] payload_open payload_copy

/-- The rectangle of the whole block. -/
abbrev all : Rect S256x256 := Rect.unit (s := S256x256) ![0, 0] S256x256.size inb_S256x256_S256x256_0_0

/-- Loading two whole blocks and storing their sum over a whole block leaves the sum of the two. -/
theorem stored_eq (u v w : Block F) :
    oRef.view.writes (Elt F) w [⟨all, k0_pay1 (xRef.view.readAt (Elt F) all.toLoadRect u) (lRef.view.readAt (Elt F) all.toLoadRect v)⟩]
      = k0_pay1 u v := by
  have hz : (![0, 0] : Fin 2 → ℕ) = fun _ => 0 := by decide
  have hu : xRef.view.readAt (Elt F) all.toLoadRect u = u := Memref.readAt_unit_zero (Elt F) cc0_stg0_0 hz _ u
  have hv : lRef.view.readAt (Elt F) all.toLoadRect v = v := Memref.readAt_unit_zero (Elt F) cc0_scratch0 hz _ v
  rw [hu, hv]
  exact Memref.write_access_unit_zero_univ (Elt F) cc0_stg1_0 hz inb_S256x256_S256x256_0_0 w (k0_pay1 u v)

/-- A cell of device `c` past its only round stands at zero again. -/
theorem settled (g : GSem nD τ sig) :
    iprop(cellInv ER (plan x) (κ g) g ∗ atPos ER g 1 ∅ 0) ⊢ iprop(|={Set.univ}=> semVal g 0 : sProp 𝕄) :=
  Rounds.cell_close ER (plan x) (Set.mem_univ _) (fun h => h) (plan_done x g)

/-- The body on device `c` ends with the sum in the result's buffer, the operand's buffer as it was, the peer's block in
    the landing buffer, nothing owed, and its three cells at zero. -/
theorem body_run (c : Dev nD) (W : Waits sig Unit) (v w : Block F) :
    iprop(records x κ c ∗ stake c ∗ credit c ∗ levAts pairs rank ∗ owes (c : Thread nD τ) (debt c) W
        ∗ operand c (x c) ∗ landing c v ∗ result c w)
      ⊢ wp frame (wpE (defs₀ (F := F)) Variants.none (c : Thread nD τ) none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2)
          (fun _ => iprop((∃ W', owes (c : Thread nD τ) 0 W') ∗ operand c (x c) ∗ landing c (x (peer c))
            ∗ result c (summed x c) ∗ atRest c)) := by
  have hs := signalled_eq c
  have hc := copied_eq c
  have hw := may_wait_gate (F := F) c
  simp only [cc0_body_eq_skeleton]
  unfold cc0_body_skel records stake credit debt operand result landing xRef oRef lRef
  iintro ⟨⟨⟨#Ig, #Is, #Ir, #Ig', #Ir'⟩, #Rg', #Rr', #Rs, #Rr⟩, ⟨⟨Ag, As, Ar⟩, Tg, Ts, Tr⟩, ⟨Cg, Cr⟩, #Hl, Ho, Hx, Hv, Hw⟩
  sl_exec
  imod (settled x κ (gateCell c)) $$ [Ag] with Zg
  · isplitr; · iexact Ig
    iexact Ag
  imod (settled x κ (sentCell c)) $$ [As] with Zs
  · isplitr; · iexact Is
    iexact As
  imod (settled x κ (gotCell c)) $$ [Ar] with Zr
  · isplitr; · iexact Ir
    iexact Ar
  rw [stored_eq, wp_ret]
  imodintro
  unfold atRest
  isplitl [Ho]; · iexists _; iexact Ho
  isplitl [As_pay1]; · iexact As_pay1
  isplitl [Ar_pay1]; · iexact Ar_pay1
  isplitl [Hw]; · iexact Hw
  isplitl [Zg]; · iexact Zg
  isplitl [Zs] <;> iassumption

end Cert.Exchange

end
-- ==== Proof.Deal.lean ====
/-
# Dealing out the exchange before it starts

All twelve cells start at zero and in round 0. One step for all devices together puts every cell under its invariant;
the tokens of the raises are then dealt to the devices that make them, which for a barrier or a receive cell is the
peer of its owner.
-/
module

public import proofs.«01_k».proof.Proof.Body

@[expose] public section

noncomputable section

namespace Cert.Exchange

open Cert.KernelIdeal Cert.KernelIdeal.Gen
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (x : Dev nD → Block F)

/-- The twelve cells. -/
def cells : Finset (GSem nD τ sig) := Finset.univ.map cellAt

/-- The one token of each. -/
def tokens : Finset (GSem nD τ sig × ℕ × Unit) :=
  cells.map ⟨fun g => (g, 0, ()), fun _ _ h => congrArg Prod.fst h⟩

/-- Every cell of the exchange is among them. -/
theorem mem_cells (c : Dev nD) (k : Fin 3) : cellAt (c, k) ∈ cells :=
  Finset.mem_map_of_mem _ (Finset.mem_univ _)

/-- A product over the cells, sorted by their role. -/
theorem bigSep_cells (Φ : GSem nD τ sig → sProp 𝕄) :
    bigSep cells Φ = iprop((bigSep Finset.univ fun c : Dev nD => Φ (gateCell c))
      ∗ (bigSep Finset.univ fun c : Dev nD => Φ (sentCell c)) ∗ (bigSep Finset.univ fun c : Dev nD => Φ (gotCell c))) := by
  unfold cells
  rw [bigSep_map, bigSep_univ_prod, ← bigSep_sep', ← bigSep_sep']
  exact bigSep_congr fun c _ => bigSep_univ_eq_bigSepL [0, 1, 2] (by decide) (by decide) _

/-- What the launch provides for the exchange, before it is dealt out. -/
abbrev pot : UR sig nD τ := launchOf cells ∅ tokens

/-- The records of every device from the records of all cells. -/
theorem records_intro (κ : GSem nD τ sig → ℕ) (c : Dev nD) :
    iprop((bigSep cells fun g => cellInv ER (plan x) (κ g) g) ∗ bigSep cells fun g => reached ER g 0)
      ⊢ (records x κ c : sProp 𝕄) := by
  have I (d : Dev nD) (k : Fin 3) : (bigSep cells fun g => cellInv ER (plan x) (κ g) g : sProp 𝕄)
      ⊢ cellInv ER (plan x) (κ (cellAt (d, k))) (cellAt (d, k)) := bigSep_elim (mem_cells d k)
  have R (d : Dev nD) (k : Fin 3) : (bigSep cells fun g => reached ER g 0 : sProp 𝕄)
      ⊢ reached ER (cellAt (d, k)) 0 := bigSep_elim (mem_cells d k)
  unfold records
  iintro ⟨#HI, #HR⟩
  isplitr
  · isplitr; · iapply (I c 0); iexact HI
    isplitr; · iapply (I c 1); iexact HI
    isplitr; · iapply (I c 2); iexact HI
    isplitr; · iapply (I (peer c) 0); iexact HI
    iapply (I (peer c) 2); iexact HI
  isplitr; · iapply (R (peer c) 0); iexact HR
  isplitr; · iapply (R (peer c) 2); iexact HR
  isplitr; · iapply (R c 1); iexact HR
  iapply (R c 2); iexact HR

/-- The stakes of all devices from the places and the tokens of all cells: the token of a barrier or receive cell goes to
    the peer of the cell's owner. -/
theorem stakes_intro :
    iprop((bigSep cells fun g => atPos ER g 0 ∅ 0) ∗ bigSep cells fun g => dutyTok ER g 0 ())
      ⊢ (bigSep Finset.univ fun c : Dev nD => stake c : sProp 𝕄) := by
  rw [bigSep_cells, bigSep_cells,
    bigSep_univ_equiv across (fun c : Dev nD => (dutyTok ER (gateCell c) 0 () : sProp 𝕄)),
    bigSep_univ_equiv across (fun c : Dev nD => (dutyTok ER (gotCell c) 0 () : sProp 𝕄))]
  unfold stake
  simp only [bigSep_sep']
  exact .rfl

/-- Every device's share of the exchange, under names it does not choose. -/
def share (c : Dev nD) : sProp 𝕄 := iprop(∃ κ, records x κ c ∗ stake c)

/-- From the counters at zero and the pot, every device's share. -/
theorem deal :
    iprop((bigSep cells fun g => (semVal g 0 : sProp 𝕄)) ∗ BI.own (ER pot))
      ⊢ iprop(|={Set.univ}=> bigSep Finset.univ (share x)) := by
  have hT : (bigSep tokens fun t => (dutyTok ER t.1 t.2.1 t.2.2 : sProp 𝕄)) = bigSep cells fun g => dutyTok ER g 0 () :=
    bigSep_map _
  refine (Rounds.fund_launch ER (plan x) (Finset.disjoint_empty_right _) (fun g hg => absurd hg (Finset.notMem_empty g)) tokens).trans
    (BI.fupd_mono ?_)
  rw [hT, Finset.union_empty]
  iintro ⟨%κ, -, #HI, #HR, HA, -, HT⟩
  ihave HS := (stakes_intro (F := F)) $$ [HA HT]
  · isplitl [HA] <;> iassumption
  have hr : iprop((bigSep cells fun g => cellInv ER (plan x) (κ g) g) ∗ bigSep cells fun g => reached ER g 0)
      ⊢ (bigSep Finset.univ fun c : Dev nD => records x κ c : sProp 𝕄) :=
    BI.bigSep_intro_persistent fun c _ => records_intro x κ c
  have hs : iprop((bigSep Finset.univ fun c : Dev nD => records x κ c) ∗ bigSep Finset.univ fun c : Dev nD => stake c)
      ⊢ (bigSep Finset.univ (share x) : sProp 𝕄) := by
    rw [← bigSep_sep']
    refine bigSep_mono fun c _ => ?_
    show iprop(records x κ c ∗ stake c) ⊢ share x c
    unfold share
    iintro H; iexists κ; iexact H
  iapply hs
  isplitr
  · iapply hr
    isplitr <;> iassumption
  iexact HS

/-! ## As the launch hands things over: device by device -/

/-- The kernel's own semaphores: send and receive. -/
abbrev own : Fin 2 → SemLoc sig := ![.dma cc0_scratch1.sem, .dma cc0_scratch2.sem]

/-- The kernel's own two semaphores of a device at zero are its send and its receive cell at zero. -/
theorem own_eq (c : Dev nD) :
    (Pipeline.ownSems0 (Ix := Unit) (Name := ℕ) (U := UU) (Lvl := ℕ) (Val := Elt F) (τ := τ) own c : sProp 𝕄)
      = iprop(semVal (sentCell c) 0 ∗ semVal (gotCell c) 0) := by
  rw [Pipeline.ownSems0_eq_of_list c own [0, 1] (by decide) (by decide)]; rfl

/-- The barrier semaphore outlives the kernel; it is the only one that does. -/
theorem lasting_eq (c : Dev nD) : (unscopedSems0 c : sProp 𝕄) = semVal (gateCell c) 0 := by
  unfold unscopedSems0; rw [bigSep_eq_bigSepL_of_eq [SemLoc.reg gate] (by decide) (by decide)]; rfl

/-- The pot is put down at device 0. -/
def purse (c : Dev nD) : sProp 𝕄 := if c = 0 then BI.own (ER pot) else iprop(emp)

/-- All the purses together are the pot. -/
theorem purses_eq : (bigSep Finset.univ (purse (F := F)) : sProp 𝕄) = iprop(BI.own (ER pot) ∗ emp) := by
  have h : ∀ c ∈ Finset.univ.erase (0 : Dev nD), (purse c : sProp 𝕄) = iprop(emp) :=
    fun c hc => if_neg (Finset.ne_of_mem_erase hc)
  rw [bigSep_univ_at _ (0 : Dev nD), bigSep_congr h]
  exact congrArg (fun P : sProp 𝕄 => iprop(BI.own (ER pot) ∗ P)) (bigSep_emp_const _)

/-- The launch's step: every device's semaphores at zero and the purses become every device's share. -/
theorem deal_all :
    (bigSep Finset.univ fun c : Dev nD =>
        iprop(Pipeline.ownSems0 (Ix := Unit) (Name := ℕ) (U := UU) (Lvl := ℕ) (Val := Elt F) (τ := τ) own c
          ∗ unscopedSems0 c ∗ purse c) : sProp 𝕄)
      ⊢ iprop(|={Set.univ}=> bigSep Finset.univ (share x)) := by
  simp only [own_eq, lasting_eq, bigSep_sep', purses_eq]
  iintro ⟨⟨HS, HR⟩, HG, HP, -⟩
  iapply (deal x)
  rw [bigSep_cells]
  isplitl [HS HR HG]
  · isplitl [HG]; · iexact HG
    isplitl [HS] <;> iassumption
  iexact HP

/-- What the devices owe at launch is what each is credited with. -/
theorem credit_intro (c : Dev nD) : (Pipeline.launchCred debt c : sProp 𝕄) ⊢ credit c := by
  unfold credit
  rw [show (debt : Dev nD → CellTallies nD τ sig Unit)
      = fun d => tallyAt (gotCell (peer d)) () units + tallyAt (gateCell (peer d)) () 1 from rfl, Pipeline.launchCred_add]
  iintro ⟨Hr, Hg⟩
  isplitl [Hg]
  · iapply (Pipeline.launchCred_tallyAt (.reg gate) peer peer peer_peer peer_peer () 1 c); iexact Hg
  · iapply (Pipeline.launchCred_tallyAt (.dma cc0_scratch2.sem) peer peer peer_peer peer_peer () units c); iexact Hr

end Cert.Exchange

end
-- ==== Proof.Run.lean ====
/-
# The run of the whole program

The four devices' kernels, started together from any memory with every semaphore at zero, all end. At the end the
operand's array is as it was, the result's array on each device holds its own block plus its peer's, and every semaphore
is at zero again. Stated for any float values.
-/
module

public import proofs.«01_k».proof.Proof.Deal
public import proofs.«01_k».proof.Proof.Gen.KernelIdeal.Points
public import Idealize.ShloMosaic.Lib.Pipeline.Value
public import Idealize.ShloMosaic.Lib.Pipeline.ValueKit
public import Idealize.ShloMosaic.Lib.Pipeline.CollectiveSegs
public import Idealize.ShloMosaic.Lib.Claim

@[expose] public section

noncomputable section

namespace Cert.Exchange

open Cert.KernelIdeal Cert.KernelIdeal.Gen
open Idealize.ShloMosaic Idealize.ShloMosaic.TcCoe Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- Device `c`'s block of the operand, as the run finds it. -/
def block (c : Dev nD) : Block F := m ((c : Thread nD τ).loc main_arg0)

/-- What a device starts from: its share of the exchange, its credit, and the ranks. -/
def start (c : Dev nD) : sProp 𝕄 := iprop(share (block m) c ∗ credit c ∗ levAts pairs rank)

/-- Before the body: that, and the landing buffer with anything in it. -/
def before (c : Dev nD) : sProp 𝕄 := iprop(start m c ∗ ∃ v, landing c v)

/-- After it: the peer's block in the landing buffer, and the three cells at zero. -/
def after (c : Dev nD) : sProp 𝕄 := iprop(landing c (block m (peer c)) ∗ atRest c)

/-- The proof data of the one-point pipeline around the body. -/
def dats (_ : Fin 1) (c : Dev nD) : Dat τ (Elt F) Unit ℕ UU ℕ cfg0 c where
  A w := m ((cfg0.win w).arr.view.loc (c : Thread nD τ))
  after w _ := match w with
    | ⟨0, _⟩ => block m c
    | ⟨1, _⟩ => summed (block m) c
  Φ t := match t with
    | ⟨0, _⟩ => before m c
    | ⟨_ + 1, _⟩ => after m c
  q _ := fullShare
  owed t := match t with
    | ⟨0, _⟩ => debt c
    | ⟨_ + 1, _⟩ => 0

/-- Each of the three buffers in full, in the words of the launch. -/
theorem landing_eq (c : Dev nD) (v : Block F) :
    landing c v = (((c : Thread nD τ).loc cc0_scratch0) ↦{fullShare} v : sProp 𝕄) := by unfold landing; rw [View.set_whole]
theorem operand_eq (c : Dev nD) (v : Block F) :
    operand c v = (((c : Thread nD τ).loc cc0_stg0_0) ↦{fullShare} v : sProp 𝕄) := by unfold operand; rw [View.set_whole]
theorem result_eq (c : Dev nD) (v : Block F) :
    result c v = (((c : Thread nD τ).loc cc0_stg1_0) ↦{fullShare} v : sProp 𝕄) := by unfold result; rw [View.set_whole]

/-- The two staging buffers in full, in the words of the pipeline. -/
theorem owns_operand (c : Dev nD) (v : Block F) :
    (owns (Ix := Unit) (Name := ℕ) (U := UU) (Lvl := ℕ) (c : Thread nD τ) (Memref.whole cc0_stg0_0) fullShare v : sProp 𝕄) = operand c v :=
  (owns_whole _ _ _ _).trans (operand_eq c v).symm
theorem owns_result (c : Dev nD) (v : Block F) :
    (owns (Ix := Unit) (Name := ℕ) (U := UU) (Lvl := ℕ) (c : Thread nD τ) (Memref.whole cc0_stg1_0) fullShare v : sProp 𝕄) = result c v :=
  (owns_whole _ _ _ _).trans (result_eq c v).symm

/-- The operand's window is the whole array: what is staged is the device's block. -/
theorem staged_eq (c : Dev nD) (d : Block F) : (dats m 0 c).before 0 t0_0 d = block m c := by
  unfold Dat.before
  rw [if_pos (fetch0_0 t0_0)]
  funext i
  show m _ _ = m _ _
  congr 1
  have h : ∀ a, win0_0.index t0_0 a = 0 := by decide +kernel
  blk_ext [h]

/-- What the pipeline hands the body's run. -/
def entry (c : Dev nD) : sProp 𝕄 :=
  iprop(before m c ∗ (dats m 0 c).owesAt () t0_0.castSucc ∗ (∃ d, operand c ((dats m 0 c).before 0 t0_0 d)) ∗ ∃ d, result c ((dats m 0 c).before 1 t0_0 d))
/-- What it takes back. -/
def exit (c : Dev nD) : sProp 𝕄 :=
  iprop(after m c ∗ (dats m 0 c).owesAt () t0_0.succ ∗ operand c (block m c) ∗ result c (summed (block m) c))

/-- What the body's run leaves is what the pipeline takes back. -/
theorem exit_of_run (c : Dev nD) :
    iprop((∃ W', owes (c : Thread nD τ) 0 W') ∗ operand c (block m c) ∗ landing c (block m (peer c))
      ∗ result c (summed (block m) c) ∗ atRest c) ⊢ exit m c := by
  unfold exit after Dat.owesAt Pipeline.owesWithin
  iintro ⟨⟨%W, HO⟩, Hx, Hv, Hr, Hz⟩
  isplitl [Hv Hz]
  · isplitl [Hv] <;> iassumption
  isplitl [HO]
  · iexists W
    isplitr
    · ipureintro; exact fun _ _ => Or.inl trivial
    iexact HO
  isplitl [Hx] <;> iassumption

/-- The run of the body, between the two. -/
theorem body_between (c : Dev nD) : entry m c ⊢ wp frame (wpE (defs₀ (F := F)) Variants.none (c : Thread nD τ) none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => exit m c) := by
  unfold entry before start share Dat.owesAt Pipeline.owesWithin
  simp only [staged_eq]
  iintro ⟨⟨⟨⟨%κ, #HR, Hst⟩, Hcr, #Hl⟩, ⟨%v, Hv⟩⟩, ⟨%W, %hW, HO⟩, ⟨%d, Hx⟩, ⟨%w, Hw⟩⟩
  iapply ((body_run (block m) κ c W v _).trans (wp_mono _ _ _ fun _ => exit_of_run m c))
  isplitr; · iexact HR
  isplitl [Hst]; · iexact Hst
  isplitl [Hcr]; · iexact Hcr
  isplitr; · iexact Hl
  isplitl [HO]; · iexact HO
  isplitl [Hx]; · iexact Hx
  isplitl [Hv]; · iexact Hv
  iexact Hw

/-- The pipeline's one point. -/
theorem obligation (c : Dev nD) : BodyObligation (dats (F := F) m 0 c) (defs₀ (F := F)) Variants.none () Set.univ := by
  intro t
  rw [fin_N0 t, bigSep_W0, bigSep_W0]
  have h := body_between m c
  unfold entry exit at h
  simp only [← owns_operand, ← owns_result] at h
  exact h

/-- The send and the receive semaphores are the kernel's own, apart from the pipeline's. -/
theorem own_apart : Pipeline.OwnSemFacts cfg0.spec own := by decide

/-- Every array is held in full. -/
theorem share_full (c : Dev nD) (w : Fin cfg0.W) : (dats m 0 c).share w = fullShare := by unfold Dat.share; split <;> rfl

/-- A cell that is neither a barrier nor a receive cell has rank zero. -/
theorem rank_low (c : Dev nD) {s : SemLoc sig} (h : s ≠ .reg gate ∧ s ≠ .dma cc0_scratch2.sem) : rank ((c : Thread nD τ), s) () = 0 :=
  (if_neg h.1).trans (if_neg h.2)

/-- The pipeline's own cells have rank zero, so a device may wait on them whatever it owes. -/
theorem waits (c : Dev nD) : (levAts pairs rank : sProp 𝕄) ⊢ Pipeline.cellsWaits cfgs (dats m) () 0 c :=
  Pipeline.cellsWaits_intro cfgs (dats m) () 0 c fun w s t => by
    rcases t with ⟨_ | _, ht⟩
    · exact may_wait_low c _ (rank_low c (by fin_cases w <;> fin_cases s <;> decide))
    · exact may_wait fun _ _ hg => absurd hg (Nat.lt_irrefl 0)

/-- The launch gives it to each device; the device's other memory and its random state are not needed. -/
theorem start_of_launch (c : Dev nD) :
    iprop(Pipeline.unscopedRestP Pipeline.Prefetch.none cfg0.spec c (fun b => m ((c : Thread nD τ).loc b)) ∗ levAts pairs rank
        ∗ Pipeline.launchCred debt c ∗ prngReg c (ρ c) ∗ share (block m) c)
      ⊢ |={Set.univ}=> iprop(start m c ∗ emp) := by
  unfold start
  iintro ⟨-, #Hl, Hc, -, Hs⟩
  ihave Hc := (credit_intro (F := F) c) $$ Hc
  imodintro
  isplitl
  · isplitl [Hs]; · iexact Hs
    isplitl [Hc]; · iexact Hc
    iexact Hl
  · iempintro

/-- With the landing buffer, which the launch makes, the body can begin. -/
theorem before_of_start (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ before m c
  unfold before start
  simp only [scopedRest0_eq, landing_eq]
  iintro ⟨Hs, -, Hv⟩
  isplitl [Hs] <;> iassumption

/-- What the body leaves gives every semaphore and the landing buffer back. -/
theorem leaves_of_after (c : Dev nD) :
    (dats m 0 c).Φ (Fin.last cfg0.N) ⊢ iprop(unscopedSems0 c ∗ Pipeline.ownSems0 own c ∗ Pipeline.scopedRest cfg0.spec c) := by
  show after m c ⊢ _
  unfold after atRest
  rw [scopedRest0_eq, own_eq, lasting_eq, landing_eq]
  iintro ⟨Hv, Hg, Hown⟩
  isplitl [Hg]; · iexact Hg
  isplitl [Hown]; · iexact Hown
  iexists (block m (peer c)); iexact Hv

/-- What the operand's and the result's arrays hold after the run. -/
theorem operand_after (c : Dev nD) : (dats m 0 c).arrAt 0 cfg0.N = block m c := (dats m 0 c).arrAt_in 0 rfl _
theorem result_after (c : Dev nD) : (dats m 0 c).arrAt 1 cfg0.N = summed (block m) c := by
  refine (dats m 0 c).arrAt_eq_of_after_last 1 t0_0 (by decide +kernel) _ fun j => ?_
  blk_simp
  rfl

set_option maxRecDepth 8000 in
/-- From any memory with every semaphore at zero every device's run ends, the operand is as it was, the result is the
    device's block plus its peer's, and every semaphore is at zero. -/
theorem run_main : θ_run defs (onTc (τ := τ) (main (F := F))) ⟨m, fun _ => 0, ρ⟩ (fun r =>
    (∀ c : Dev nD, r.2.mem ((c : Thread nD τ).loc main_arg0) = block m c ∧ r.2.mem ((c : Thread nD τ).loc main_v1) = summed (block m) c)
      ∧ r.2.sem = fun _ => 0) :=
  Pipeline.θ_run_region_owing_glob_pf (fun p => (cfgs p).toPCfg) (fun p => (cfgs p).toPCfg_adm) (dats m) () cellOf_inj (0 : Fin 1)
    winFacts0.to₀ own_apart (Pipeline.PreFacts.none _) EP defs₀ Variants.none m ρ main
    (hmain := fun _ => rfl) (hbody := obligation m) (hne := fun w => by fin_cases w <;> exact Nat.succ_pos _)
    (harr := arr_whole0) (hstage := stage_whole0) (hshare := share_full m) (hdistinct := winFacts0.arr_inj)
    (O₀ := debt) (howed₀ := fun _ => rfl) (howedN := fun _ => rfl)
    (L := pairs) (lv := rank) (hL := fun _ h => if_neg h) (hwaits := waits m)
    (G := purse) (G' := share (block m))
    (u₀ := (initOf (Pipeline.cells cfgs cellOf_inj) (Pipeline.launchToks cfgs cellOf_inj), pot))
    (hu₀ := by
      rw [purses_eq]
      iintro Hu
      ihave H := (ownU_pair _ _) $$ Hu
      icases H with ⟨HP, HX⟩
      imodintro
      isplitl [HP]; · iexact HP
      isplitl [HX]; · iexact HX
      iempintro)
    (hglob := deal_all _)
    (hA := fun _ _ => rfl) (hpf := fun _ k => k.elim0)
    (X := start m) (Y := fun c => unscopedSems0 c) (Z := fun _ => iprop(emp))
    (hX := start_of_launch m ρ) (hin := before_of_start m) (hout := leaves_of_after m)
    (QY := fun c s => ∀ sm : SemLoc sig, sm.isScoped .tc = false → s.sem ((c : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 0).trans (operand_after m c), ((h c).1 1).trans (result_after m c)⟩,
      sem_eq_zero hs fun c => (h c).2.2⟩)

end Cert.Exchange

end
-- ==== Proof.Reference.lean ====
/-
# What the reference computes

The reference cuts the whole array's rows into an upper and a lower half and adds the two. Read over the ideal numbers, its
reshape, its zero and its sum along the new axis come to that.
-/
module

public import proofs.«01_k».proof.Proof.Gen.ReferenceIdeal.Run
public import Idealize.ShloMosaic.Lib.IdealHost
public import Idealize.ShloMosaic.Lib.Pointwise

@[expose] public section

noncomputable section

namespace Cert.Halves

open Cert.ReferenceIdeal Cert.ReferenceIdeal.Gen
open Idealize.ShloMosaic

/-- The upper (`k = 0`) or the lower (`k = 1`) half of the rows of the whole array. -/
def half (X : FVec Ideal S512x256 .f32) (k : Fin 2) : FVec Ideal S256x256 .f32 :=
  fun i => X (ix2 (⟨k.val * 256 + (i 0).val, by have : (i 0).val < 256 := (i 0).isLt; omega⟩ : Fin 512) (i 1))

/-- The reference's result from the whole array, as its operations are printed. -/
def total (X : FVec Ideal S512x256 .f32) : FVec Ideal S256x256 .f32 :=
  Host.reduceAdd (shapeCast S2x256x256 X shapeCasts_S512x256_S2x256x256) (constant S_ .f32 0x00000000#32)
    reducesTo_S2x256x256_S256x256_d0 h_S_

/-- Each element of it is the sum of the two halves' elements. -/
theorem total_apply (X : FVec Ideal S512x256 .f32) (i : S256x256.Idx) : total X i = half X 0 i + half X 1 i := by
  unfold total
  pointwise
  exact Fin.sum_univ_two fun k => half X k i

end Cert.Halves

end
-- ==== Proof.Equation.lean ====
/-
# The kernel's result is the reference's

When the devices hold the halves of one array, device `c` holding the half that its place on the first axis of the mesh
names, a device and its peer hold the two halves. What the kernel stores, a device's own half plus its peer's, is then the
reference's result on every device; on the devices that hold the lower half the two terms stand the other way round.
-/
module

public import proofs.«01_k».proof.Proof.Body
public import proofs.«01_k».proof.Proof.Reference
public import Idealize.ShloMosaic.Lib.Layout

@[expose] public section

noncomputable section

namespace Cert.Halves

open Cert.KernelIdeal Cert.KernelIdeal.Gen Cert.Exchange
open Idealize.ShloMosaic

/-- An element of what one device stores: its block's element plus its peer's block's. -/
theorem summed_apply (x : Dev nD → Block Ideal) (c : Dev nD) (i : S256x256.Idx) :
    summed x c i = x c i + x (peer c) i := by
  unfold summed k0_pay1
  pointwise

/-- The half of the array that device `c` holds: the upper one on devices 0 and 1, the lower on 2 and 3. -/
def place : Dev nD → Fin 2 := ![0, 0, 1, 1]

/-- A device's part of the array, as the mesh lays it, is the half at the device's place. -/
theorem part_eq (X : FVec Ideal ⟨2, ![512, 256]⟩ .f32) (c : Dev nD) :
    Layout.blockN ⟨2, ![256, 256]⟩ ⟨2, ![512, 256]⟩ (Layout.meshBlock [2, 2] ![[0], []] c) X = half X (place c) := by
  funext i
  rw [Layout.blockN_apply]
  unfold half
  congr 1
  funext a
  apply Fin.ext
  rw [Layout.TilesN.idx_val]
  fin_cases a
  · fin_cases c <;> rfl
  · fin_cases c <;> exact Nat.zero_add _

/-- The two terms of a device's sum are the two halves, in one order or the other. -/
theorem halves_of_pair (X : FVec Ideal ⟨2, ![512, 256]⟩ .f32) (c : Dev nD) (i : S256x256.Idx) :
    half X (place c) i + half X (place (peer c)) i = half X 0 i + half X 1 i := by
  fin_cases c
  · rfl
  · rfl
  · exact add_comm (half X 1 i) (half X 0 i)
  · exact add_comm (half X 1 i) (half X 0 i)

/-- Run on the parts of one array, the kernel leaves on every device what the reference computes from the whole. -/
theorem summed_eq_total (X : FVec Ideal ⟨2, ![512, 256]⟩ .f32) (x : Dev nD → Block Ideal)
    (h : ∀ c, x c = half X (place c)) (c : Dev nD) : summed x c = total X := by
  funext i
  rw [summed_apply, total_apply, h, h, halves_of_pair]

end Cert.Halves

end
-- ==== Proof.lean ====
/-
# The five claims

Both programs run to the end from any memory with every semaphore at zero, and leave their argument and every semaphore as
they were. The kernel over the ideal numbers is the printed kernel, operation for operation. Run on the blocks of one
array, the kernel leaves on every device the array that the reference computes from the whole.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem

/-- Over any float values the kernel runs to the end, its argument unchanged and every semaphore at zero. -/
theorem argument_kept {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).1, h.2⟩) (Cert.Exchange.run_main m ρ)

/-- The two printings of the kernel have one body: the ideal one's text is the kernel's own. -/
theorem bodies_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  fin_cases l
  rfl

/-- So they have one table of bodies. -/
theorem tables_eq : Cert.Kernel.defs (F := Bits) = Cert.KernelIdeal.defs (F := Bits) :=
  congrArg (Pipeline.defs (Cert.Kernel.pcfgs (F := Bits))) bodies_eq

/-- The kernel at bit patterns. -/
theorem frame_kernel : Cert.quiescent_Kernel := fun m ρ _ => by
  rw [tables_eq]
  exact argument_kept (F := Bits) m ρ

/-- The kernel over the ideal numbers. -/
theorem frame_ideal : Cert.quiescent_KernelIdeal := fun m ρ _ => argument_kept (F := Ideal) m ρ

/-- The reference, which has no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- On the parts of one array the kernel and the reference leave the same result. -/
theorem same_value : Cert.algebraic_KernelIdeal_ReferenceIdeal := fun m g m' g' _ hx =>
  ⟨Cert.Halves.total (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.Halves.summed_eq_total _ _ (fun d => (hx d).trans (Cert.Halves.part_eq _ d)) c), (h.1 c).1⟩)
      (Cert.Exchange.run_main (F := Ideal) m g),
    (θ_run Cert.ReferenceIdeal.defs _ _).mono (fun _ h => h 0) (Cert.ReferenceIdeal.Value.run (F := Ideal) m' g')⟩

/-- All five. -/
theorem claim : Cert.Claim := ⟨Cert.Kernel.Gen.facts, Cert.KernelIdeal.Gen.facts, Cert.ReferenceIdeal.Gen.facts,
  frame_kernel, frame_ideal, frame_reference, trivial, same_value⟩

end Cert.Proof

end
